-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x6528 : Shape := ⟨3, ![2, 256, 6528]⟩
abbrev S3264x3328 : Shape := ⟨2, ![3264, 3328]⟩
abbrev S51x3328 : Shape := ⟨2, ![51, 3328]⟩
abbrev S512x6528 : Shape := ⟨2, ![512, 6528]⟩
abbrev S512x3328 : Shape := ⟨2, ![512, 3328]⟩
abbrev S3264x256 : Shape := ⟨2, ![3264, 256]⟩
abbrev S51x256 : Shape := ⟨2, ![51, 256]⟩
abbrev S512x256 : Shape := ⟨2, ![512, 256]⟩
abbrev S128x256 : Shape := ⟨2, ![128, 256]⟩
abbrev S1x256 : Shape := ⟨2, ![1, 256]⟩
abbrev S256x256 : Shape := ⟨2, ![256, 256]⟩
abbrev S64x256 : Shape := ⟨2, ![64, 256]⟩
abbrev S512x128 : Shape := ⟨2, ![512, 128]⟩
abbrev S2x256x3328 : Shape := ⟨3, ![2, 256, 3328]⟩

abbrev nBuf : Space → Nat
  | .hbm => 6
  | .vmem => 7
  | .smem => 0
  | _ => 0

abbrev bufTy : (tb : Table) → Fin (tcTables nBuf tb) → BufTy
  | .hbm, ⟨0, _⟩ => ⟨S2x256x6528, .bf16⟩
  | .hbm, ⟨1, _⟩ => ⟨S3264x3328, .i8⟩
  | .hbm, ⟨2, _⟩ => ⟨S51x3328, .bf16⟩
  | .hbm, ⟨3, _⟩ => ⟨S512x6528, .bf16⟩
  | .hbm, ⟨4, _⟩ => ⟨S512x3328, .bf16⟩
  | .hbm, ⟨5, _⟩ => ⟨S2x256x3328, .bf16⟩
  | .local _ .vmem, ⟨0, _⟩ => ⟨S512x6528, .bf16⟩
  | .local _ .vmem, ⟨1, _⟩ => ⟨S3264x256, .i8⟩
  | .local _ .vmem, ⟨2, _⟩ => ⟨S3264x256, .i8⟩
  | .local _ .vmem, ⟨3, _⟩ => ⟨S51x256, .bf16⟩
  | .local _ .vmem, ⟨4, _⟩ => ⟨S51x256, .bf16⟩
  | .local _ .vmem, ⟨5, _⟩ => ⟨S512x256, .bf16⟩
  | .local _ .vmem, ⟨6, _⟩ => ⟨S512x256, .bf16⟩
  | _, _ => ⟨S2x256x6528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x6528 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3264x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S51x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x256x6528 : Shape := ⟨3, ![2, 256, 6528]⟩
abbrev S3264x3328 : Shape := ⟨2, ![3264, 3328]⟩
abbrev S51x3328 : Shape := ⟨2, ![51, 3328]⟩
abbrev S_ : Shape := ⟨0, ![]⟩
abbrev S6528x3328 : Shape := ⟨2, ![6528, 3328]⟩
abbrev S51x1x3328 : Shape := ⟨3, ![51, 1, 3328]⟩
abbrev S51x128x3328 : Shape := ⟨3, ![51, 128, 3328]⟩
abbrev S2x256x3328 : Shape := ⟨3, ![2, 256, 3328]⟩

abbrev nBuf : Space → Nat
  | .hbm => 21
  | .vmem => 0
  | .smem => 0
  | _ => 0

abbrev bufTy : (tb : Table) → Fin (tcTables nBuf tb) → BufTy
  | .hbm, ⟨0, _⟩ => ⟨S2x256x6528, .bf16⟩
  | .hbm, ⟨1, _⟩ => ⟨S3264x3328, .i8⟩
  | .hbm, ⟨2, _⟩ => ⟨S51x3328, .bf16⟩
  | .hbm, ⟨3, _⟩ => ⟨S3264x3328, .i32⟩
  | .hbm, ⟨4, _⟩ => ⟨S_, .i32⟩
  | .hbm, ⟨5, _⟩ => ⟨S3264x3328, .i32⟩
  | .hbm, ⟨6, _⟩ => ⟨S3264x3328, .i32⟩
  | .hbm, ⟨7, _⟩ => ⟨S_, .i32⟩
  | .hbm, ⟨8, _⟩ => ⟨S3264x3328, .i32⟩
  | .hbm, ⟨9, _⟩ => ⟨S3264x3328, .i32⟩
  | .hbm, ⟨10, _⟩ => ⟨S6528x3328, .i32⟩
  | .hbm, ⟨11, _⟩ => ⟨S51x1x3328, .bf16⟩
  | .hbm, ⟨12, _⟩ => ⟨S51x128x3328, .bf16⟩
  | .hbm, ⟨13, _⟩ => ⟨S6528x3328, .bf16⟩
  | .hbm, ⟨14, _⟩ => ⟨S6528x3328, .bf16⟩
  | .hbm, ⟨15, _⟩ => ⟨S_, .bf16⟩
  | .hbm, ⟨16, _⟩ => ⟨S6528x3328, .bf16⟩
  | .hbm, ⟨17, _⟩ => ⟨S6528x3328, .bf16⟩
  | .hbm, ⟨18, _⟩ => ⟨S6528x3328, .bf16⟩
  | .hbm, ⟨19, _⟩ => ⟨S2x256x3328, .f32⟩
  | .hbm, ⟨20, _⟩ => ⟨S2x256x3328, .bf16⟩
  | _, _ => ⟨S2x256x6528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Weight.lean ====
/- The weight that the packed bytes and the group scales stand for, and the product that one input row and one weight
   column contribute at one input channel. Both programs are shown to sum these products. -/
module

public import Idealize.ShloMosaic.PureOps.Ideal.Laws
public import Idealize.ShloMosaic.Lib.ValueIdx

@[expose] public section

noncomputable section

namespace Cert.Weight

open Idealize.ShloMosaic Idealize.ShloMosaic.ValueIdx
open scoped BigOperators

/-- A matrix of `M` rows and `N` columns. -/
abbrev Mat (M N : ℕ) : Shape := ⟨2, ![M, N]⟩

/-! ## The two codes of one packed byte -/

/-- The low four bits, masked at eight bits, are the byte modulo 16. -/
theorem low8 (b : BitVec 8) : (IntOp.andi b 15#8).toNat = b.toNat % 16 := by
  revert b; decide +kernel

/-- The high four bits, taken by widening to 32 bits, shifting by four and truncating back, are the byte divided by 16. -/
theorem high8 (b : BitVec 8) :
    ((IntOp.shrsi .vector (b.setWidth 32) 4#32).setWidth 8).toNat = b.toNat / 16 := by
  revert b; decide +kernel

/-- The low four bits, masked at 32 bits and read as a signed number, are the byte modulo 16. -/
theorem low32 (b : BitVec 8) : (IntOp.andi (b.setWidth 32) 15#32).toInt = ((b.toNat % 16 : ℕ) : ℤ) := by
  revert b; decide +kernel

/-- The high four bits, shifted down at 32 bits and read as a signed number, are the byte divided by 16. -/
theorem high32 (b : BitVec 8) :
    (IntOp.shrsi .host (b.setWidth 32) 4#32).toInt = ((b.toNat / 16 : ℕ) : ℤ) := by
  revert b; decide +kernel

/-! ## The weight -/

/-- The four-bit code of input channel `k` and column `j`: channels below 3264 are in the low halves of the packed rows,
    the others in the high halves, in the same order. -/
def code {N : ℕ} (w : (Mat 3264 N).Idx → BitVec 8) (k : Fin 6528) (j : Fin N) : ℕ :=
  if h : k.val < 3264 then (w (ix2 ⟨k.val, h⟩ j)).toNat % 16
  else (w (ix2 ⟨k.val - 3264, by have := k.isLt; omega⟩ j)).toNat / 16

/-- A channel in the lower half reads the low four bits of the byte in its own row. -/
theorem code_low {N : ℕ} (w : (Mat 3264 N).Idx → BitVec 8) (k : Fin 6528) (j : Fin N) (p : Fin 3264)
    (hp : k.val = p.val) : code w k j = (w (ix2 p j)).toNat % 16 := by
  have h : k.val < 3264 := hp ▸ p.isLt
  obtain rfl : p = ⟨k.val, h⟩ := Fin.ext hp.symm
  rw [code, dif_pos h]

/-- A channel in the upper half reads the high four bits of the byte 3264 rows above. -/
theorem code_high {N : ℕ} (w : (Mat 3264 N).Idx → BitVec 8) (k : Fin 6528) (j : Fin N) (p : Fin 3264)
    (hp : k.val = 3264 + p.val) : code w k j = (w (ix2 p j)).toNat / 16 := by
  have h : ¬ k.val < 3264 := by omega
  have e : (⟨k.val - 3264, by have := k.isLt; omega⟩ : Fin 3264) = p := Fin.ext (by show k.val - 3264 = p.val; omega)
  rw [code, dif_neg h, e]

/-- The group of 128 channels that channel `k` lies in. -/
def group (k : Fin 6528) : Fin 51 := ⟨k.val / 128, by have := k.isLt; omega⟩

/-- The weight of channel `k` and column `j`: the code less the zero point, times the scale of the channel's group. -/
def wgt {N : ℕ} (w : (Mat 3264 N).Idx → BitVec 8) (s : (Mat 51 N).Idx → EReal) (k : Fin 6528) (j : Fin N) : EReal :=
  (((code w k j : ℕ) : ℝ) - Ideal.ofBits .bf16 0x4100#16) * s (ix2 (group k) j)

/-- The weights of a column depend on that column of the bytes and of the scales only. -/
theorem wgt_congr {N N' : ℕ} (w : (Mat 3264 N).Idx → BitVec 8) (s : (Mat 51 N).Idx → EReal)
    (w' : (Mat 3264 N').Idx → BitVec 8) (s' : (Mat 51 N').Idx → EReal) (j : Fin N) (j' : Fin N')
    (hw : ∀ p, w (ix2 p j) = w' (ix2 p j')) (hs : ∀ g, s (ix2 g j) = s' (ix2 g j')) (k : Fin 6528) :
    wgt w s k j = wgt w' s' k j' := by
  unfold wgt code
  rw [hs]
  split_ifs with h <;> rw [hw]

/-- What channel `k` contributes to the result at row `r` and column `j` (zero past the last channel). -/
def term {N : ℕ} (x : (Mat 512 6528).Idx → EReal) (w : (Mat 3264 N).Idx → BitVec 8) (s : (Mat 51 N).Idx → EReal)
    (r : Fin 512) (j : Fin N) (k : ℕ) : EReal :=
  if h : k < 6528 then x (ix2 r ⟨k, h⟩) * wgt w s ⟨k, h⟩ j else 0

/-- The result at row `r` and column `j`: the sum of the contributions of all 6528 channels. -/
def total {N : ℕ} (x : (Mat 512 6528).Idx → EReal) (w : (Mat 3264 N).Idx → BitVec 8) (s : (Mat 51 N).Idx → EReal)
    (r : Fin 512) (j : Fin N) : EReal := ∑ k ∈ Finset.range 6528, term x w s r j k

/-- The result is the sum, over the channels, of input times weight. -/
theorem total_eq {N : ℕ} (x : (Mat 512 6528).Idx → EReal) (w : (Mat 3264 N).Idx → BitVec 8)
    (s : (Mat 51 N).Idx → EReal) (r : Fin 512) (j : Fin N) :
    total x w s r j = ∑ k : Fin 6528, x (ix2 r k) * wgt w s k j := by
  unfold total
  rw [Finset.sum_range]
  exact Finset.sum_congr rfl fun k _ => dif_pos k.isLt

/-- The result of a column depends on that column of the bytes and of the scales only. -/
theorem total_congr {N N' : ℕ} (x : (Mat 512 6528).Idx → EReal) (w : (Mat 3264 N).Idx → BitVec 8)
    (s : (Mat 51 N).Idx → EReal) (w' : (Mat 3264 N').Idx → BitVec 8) (s' : (Mat 51 N').Idx → EReal) (r : Fin 512)
    (j : Fin N) (j' : Fin N') (hw : ∀ p, w (ix2 p j) = w' (ix2 p j')) (hs : ∀ g, s (ix2 g j) = s' (ix2 g j')) :
    total x w s r j = total x w' s' r j' := by
  rw [total_eq, total_eq]
  exact Finset.sum_congr rfl fun k _ => by rw [wgt_congr w s w' s' j j' hw hs]

/-- The linear layer at batch `b`, position `q` and column `n`: the sum, over the channels, of input times weight. -/
def linear (x : (⟨3, ![2, 256, 6528]⟩ : Shape).Idx → EReal) (w : (Mat 3264 3328).Idx → BitVec 8)
    (s : (Mat 51 3328).Idx → EReal) (b : Fin 2) (q : Fin 256) (n : Fin 3328) : EReal :=
  ∑ k : Fin 6528, x (ix3 b q k) * wgt w s k n

end Cert.Weight

end
-- ==== Proof.Piece.lean ====
/- One step of the kernel's sum over the input channels: the rows of weights that one packed slab gives, the slabs laid
   one under another into a tile, and the tile's product added to the running sum. Each fact is stated once, for any
   offsets. -/
module

public import proofs.«01_k».proof.Proof.Weight
public import proofs.«01_k».proof.KernelIdeal
public import Idealize.ShloMosaic.Lib.Pipeline.Value
public import Idealize.ShloMosaic.Lib.Pipeline.ValueKit.Tiles
public import Idealize.ShloMosaic.Lib.MatmulPlain

@[expose] public section

noncomputable section

namespace Cert.Piece

open Idealize.ShloMosaic Idealize.ShloMosaic.ValueIdx Cert.Weight
open scoped BigOperators

/-- A load at row `a` and column `b` reads, at `(i, j)`, the contents at `(a + i, b + j)`. -/
theorem ld_at {F : FTy → Type} {e : EltTy} {M N h l : ℕ} (X : Vec F (Mat M N) e) (a b : ℕ)
    (inb : ∀ d, (![a, b] : Fin 2 → ℕ) d + (Mat h l).size d ≤ (Mat M N).size d) (i : Fin h) (j : Fin l)
    (p : Fin M) (q : Fin N) (hp : p.val = a + i.val) (hq : q.val = b + j.val) :
    View.ld X (Rect.unit (s := Mat M N) ![a, b] (Mat h l).size inb) (ix2 i j) = X (ix2 p q) :=
  View.ld_unit_apply_of X _ _ _ _ _ fun d => by
    match d with
    | ⟨0, _⟩ => exact hp
    | ⟨1, _⟩ => exact hq

/-- One row of scales spread over `h` rows reads, at `(i, j)`, the scale of the column. -/
theorem spread_at {h : ℕ} (v : FVec Ideal (Mat 1 256) .bf16) (hb : (Mat 1 256).Broadcasts (Mat h 256))
    (i : Fin h) (j : Fin 256) : broadcastTo (Mat h 256) v hb (ix2 i j) = v (ix2 0 j) :=
  broadcastTo_apply v hb _ _ fun d => by
    match d with
    | ⟨0, _⟩ => rfl
    | ⟨1, _⟩ => rfl

/-- `p` holds, in its `h` rows, the weights of the `h` channels from `k`. -/
def Holds {h : ℕ} (w : Vec Ideal (Mat 3264 256) .i8) (s : Vec Ideal (Mat 51 256) .bf16) (k : ℕ)
    (p : FVec Ideal (Mat h 256) .bf16) : Prop :=
  ∀ (i : Fin h) (j : Fin 256) (K : Fin 6528), K.val = k + i.val → p (ix2 i j) = wgt w s K j

section Slabs

variable (w : Vec Ideal (Mat 3264 256) .i8) (s : Vec Ideal (Mat 51 256) .bf16)

/-- The slab of `h` packed rows from row `a`, read in its low halves: its rows are the weights of the channels from `a`.
    The slab lies in the one group `g`. -/
theorem low_slab {h : ℕ} (a g k : ℕ)
    (inb : ∀ d, (![a, 0] : Fin 2 → ℕ) d + (Mat h 256).size d ≤ (Mat 3264 256).size d)
    (inb' : ∀ d, (![g, 0] : Fin 2 → ℕ) d + (Mat 1 256).size d ≤ (Mat 51 256).size d)
    (hb : (Mat 1 256).Broadcasts (Mat h 256)) (hk : a = k) (hg : k / 128 = g ∧ k % 128 + h ≤ 128) :
    Holds w s k (mulf (subf (uitofp .bf16 (andi (View.ld w (Rect.unit (s := Mat 3264 256) ![a, 0] (Mat h 256).size inb))
            (broadcast (Mat h 256) 15#8))) (broadcast (Mat h 256) (Scalar.ofBits (F := Ideal) .bf16 0x4100#16)))
        (broadcastTo (Mat h 256) (View.ld s (Rect.unit (s := Mat 51 256) ![g, 0] (Mat 1 256).size inb')) hb)) := by
  intro i j K hK
  have h0 : a + h ≤ 3264 := inb 0
  have hi := i.isLt
  have ew := ld_at w a 0 inb i j ⟨a + i.val, by omega⟩ j rfl (Nat.zero_add _).symm
  have es : broadcastTo (Mat h 256) (View.ld s (Rect.unit (s := Mat 51 256) ![g, 0] (Mat 1 256).size inb')) hb (ix2 i j)
      = s (ix2 (group K) j) :=
    (spread_at _ hb i j).trans (ld_at s g 0 inb' 0 j (group K) j (by show K.val / 128 = g + 0; omega) (Nat.zero_add _).symm)
  have ec : code w K j = (w (ix2 ⟨a + i.val, by omega⟩ j)).toNat % 16 := code_low w K j _ (by show K.val = a + i.val; omega)
  show (((IntOp.andi (View.ld w (Rect.unit (s := Mat 3264 256) ![a, 0] (Mat h 256).size inb) (ix2 i j)) 15#8).toNat : ℝ) -
      Ideal.ofBits .bf16 0x4100#16 : EReal) * _ = _
  rw [es, ew, low8, ← ec]
  rfl

/-- The slab of `h` packed rows from row `a`, read in its high halves: its rows are the weights of the channels from
    `3264 + a`. The slab lies in the one group `g`. -/
theorem high_slab {h : ℕ} (a g k : ℕ)
    (inb : ∀ d, (![a, 0] : Fin 2 → ℕ) d + (Mat h 256).size d ≤ (Mat 3264 256).size d)
    (inb' : ∀ d, (![g, 0] : Fin 2 → ℕ) d + (Mat 1 256).size d ≤ (Mat 51 256).size d)
    (hb : (Mat 1 256).Broadcasts (Mat h 256)) (h₁ h₂ : 8 < 32) (hk : 3264 + a = k) (hg : k / 128 = g ∧ k % 128 + h ≤ 128) :
    Holds w s k (mulf (subf (uitofp .bf16 (trunci 8 (shrsi (extui 32
            (View.ld w (Rect.unit (s := Mat 3264 256) ![a, 0] (Mat h 256).size inb) : IVec (Mat h 256) 8) h₁)
            (broadcast (Mat h 256) 4#32)) h₂)) (broadcast (Mat h 256) (Scalar.ofBits (F := Ideal) .bf16 0x4100#16)))
        (broadcastTo (Mat h 256) (View.ld s (Rect.unit (s := Mat 51 256) ![g, 0] (Mat 1 256).size inb')) hb)) := by
  intro i j K hK
  have h0 : a + h ≤ 3264 := inb 0
  have hi := i.isLt
  have ew := ld_at w a 0 inb i j ⟨a + i.val, by omega⟩ j rfl (Nat.zero_add _).symm
  have es : broadcastTo (Mat h 256) (View.ld s (Rect.unit (s := Mat 51 256) ![g, 0] (Mat 1 256).size inb')) hb (ix2 i j)
      = s (ix2 (group K) j) :=
    (spread_at _ hb i j).trans (ld_at s g 0 inb' 0 j (group K) j (by show K.val / 128 = g + 0; omega) (Nat.zero_add _).symm)
  have ec : code w K j = (w (ix2 ⟨a + i.val, by omega⟩ j)).toNat / 16 :=
    code_high w K j _ (by show K.val = 3264 + (a + i.val); omega)
  show ((((IntOp.shrsi .vector ((View.ld w (Rect.unit (s := Mat 3264 256) ![a, 0] (Mat h 256).size inb) (ix2 i j)).setWidth 32)
      4#32).setWidth 8).toNat : ℝ) - Ideal.ofBits .bf16 0x4100#16 : EReal) * _ = _
  rw [es, ew, high8, ← ec]
  rfl

end Slabs

/-! ## Slabs laid one under another -/

/-- Two slabs of 128 rows, of neighbouring channels, laid one under the other. -/
theorem pair_holds (w : Vec Ideal (Mat 3264 256) .i8) (s : Vec Ideal (Mat 51 256) .bf16) (k : ℕ)
    (p q : FVec Ideal (Mat 128 256) .bf16) (hc : Shape.Concatenates [Mat 128 256, Mat 128 256] (Mat 256 256) 0)
    (hp : Holds w s k p) (hq : Holds w s (k + 128) q) :
    Holds w s k (concatenate (Mat 256 256) 0 [⟨Mat 128 256, p⟩, ⟨Mat 128 256, q⟩] hc) := by
  intro i j K hK
  have hi := i.isLt
  by_cases h : i.val < 128
  · rw [concatenate_pair_apply_left 0 p q hc (ix2 i j) rfl (ix2 ⟨i.val, h⟩ j)
      (fun b => by match b with | ⟨0, _⟩ => rfl | ⟨1, _⟩ => rfl)]
    exact hp _ _ _ hK
  · rw [concatenate_pair_apply_right 0 p q hc (ix2 i j) rfl rfl (ix2 ⟨i.val - 128, by omega⟩ j)
      (fun b hb => by match b with | ⟨0, _⟩ => exact absurd rfl hb | ⟨1, _⟩ => rfl)
      (by show (i.val - 128) + 128 = i.val; omega)]
    exact hq _ _ _ (by show K.val = k + 128 + (i.val - 128); omega)

/-- A slab of 128 rows and two of 64, of neighbouring channels, laid one under the other: the tile in which the packed
    rows end and the high halves begin. -/
theorem triple_holds (w : Vec Ideal (Mat 3264 256) .i8) (s : Vec Ideal (Mat 51 256) .bf16) (k : ℕ)
    (p : FVec Ideal (Mat 128 256) .bf16) (q r : FVec Ideal (Mat 64 256) .bf16)
    (hc : Shape.Concatenates [Mat 128 256, Mat 64 256, Mat 64 256] (Mat 256 256) 0)
    (hp : Holds w s k p) (hq : Holds w s (k + 128) q) (hr : Holds w s (k + 192) r) :
    Holds w s k (concatenate (Mat 256 256) 0 [⟨Mat 128 256, p⟩, ⟨Mat 64 256, q⟩, ⟨Mat 64 256, r⟩] hc) := by
  intro i j K hK
  have hi := i.isLt
  by_cases h : i.val < 128
  · rw [concatenate_apply_piece (t := Mat 256 256) 0 [⟨Mat 128 256, p⟩, ⟨Mat 64 256, q⟩, ⟨Mat 64 256, r⟩] hc (ix2 i j) 0 (by decide : 0 < 3) (Mat 128 256) p rfl rfl 0 rfl (ix2 ⟨i.val, h⟩ j)
      (fun b hb => by match b with | ⟨0, _⟩ => exact absurd rfl hb | ⟨1, _⟩ => rfl)
      (by show 0 + i.val = i.val; omega)]
    exact hp _ _ _ hK
  · by_cases h' : i.val < 192
    · rw [concatenate_apply_piece (t := Mat 256 256) 0 [⟨Mat 128 256, p⟩, ⟨Mat 64 256, q⟩, ⟨Mat 64 256, r⟩] hc (ix2 i j) 1 (by decide : 1 < 3) (Mat 64 256) q rfl rfl 128 rfl
        (ix2 ⟨i.val - 128, by omega⟩ j)
        (fun b hb => by match b with | ⟨0, _⟩ => exact absurd rfl hb | ⟨1, _⟩ => rfl)
        (by show 128 + (i.val - 128) = i.val; omega)]
      exact hq _ _ _ (by show K.val = k + 128 + (i.val - 128); omega)
    · rw [concatenate_apply_piece (t := Mat 256 256) 0 [⟨Mat 128 256, p⟩, ⟨Mat 64 256, q⟩, ⟨Mat 64 256, r⟩] hc (ix2 i j) 2 (by decide : 2 < 3) (Mat 64 256) r rfl rfl 192 rfl
        (ix2 ⟨i.val - 192, by omega⟩ j)
        (fun b hb => by match b with | ⟨0, _⟩ => exact absurd rfl hb | ⟨1, _⟩ => rfl)
        (by show 192 + (i.val - 192) = i.val; omega)]
      exact hr _ _ _ (by show K.val = k + 192 + (i.val - 192); omega)

/-! ## The product of a tile -/

/-- The columns of the input from column `b`, times a tile that holds the weights of the `n` channels from `b`: the sum
    of those channels' contributions. -/
theorem product_at {n : ℕ} (x : Vec Ideal (Mat 512 6528) .bf16) (w : Vec Ideal (Mat 3264 256) .i8)
    (s : Vec Ideal (Mat 51 256) .bf16) (b : ℕ)
    (inb : ∀ d, (![0, b] : Fin 2 → ℕ) d + (Mat 512 n).size d ≤ (Mat 512 6528).size d)
    (hx : (Mat 512 n).ShapeCasts (Mat 512 n)) (p : FVec Ideal (Mat n 256) .bf16) (hp : Holds w s b p)
    (r : Fin 512) (j : Fin 256) :
    FloatOps.matmul (φ₁ := .bf16) (DotDims.plain 512 n 256) none
        (shapeCast (Mat 512 n) (View.ld x (Rect.unit (s := Mat 512 6528) ![0, b] (Mat 512 n).size inb)) hx) p
        (constant (F := Ideal) (Mat 512 256) .f32 0x00000000#32) (ix2 r j)
      = ∑ k ∈ Finset.range n, term x w s r j (b + k) := by
  have hb : b + n ≤ 6528 := inb 1
  rw [Ideal.matmul_plain_apply, shapeCast_self, Finset.sum_range]
  show Ideal.ofBits .f32 0x00000000#32 + _ = _
  rw [Ideal.ofBits_zero_f32, zero_add]
  refine Finset.sum_congr rfl fun k _ => ?_
  have hk := k.isLt
  rw [term, dif_pos (by omega), hp k j ⟨b + k.val, by omega⟩ rfl,
    ld_at x 0 b inb r k r ⟨b + k.val, by omega⟩ (Nat.zero_add _).symm rfl]

/-- THE FIRST STEP: the product of the first `n` channels covers the channels below `n`. -/
theorem first {n : ℕ} (x : Vec Ideal (Mat 512 6528) .bf16) (w : Vec Ideal (Mat 3264 256) .i8)
    (s : Vec Ideal (Mat 51 256) .bf16) (r : Fin 512) (j : Fin 256)
    (d : DotDims (Mat 512 n) (Mat n 256) (Mat 512 256)) (hd : d = DotDims.plain 512 n 256)
    (inb : ∀ d, (![0, 0] : Fin 2 → ℕ) d + (Mat 512 n).size d ≤ (Mat 512 6528).size d)
    (hx : (Mat 512 n).ShapeCasts (Mat 512 n)) (p : FVec Ideal (Mat n 256) .bf16) (hp : Holds w s 0 p) :
    matmul (φ₁ := .bf16) d none
        (shapeCast (Mat 512 n) (View.ld x (Rect.unit (s := Mat 512 6528) ![0, 0] (Mat 512 n).size inb)) hx) p
        (constant (F := Ideal) (Mat 512 256) .f32 0x00000000#32) (ix2 r j)
      = ∑ k ∈ Finset.range n, term x w s r j k := by
  subst hd
  refine (product_at x w s 0 inb hx p hp r j).trans (Finset.sum_congr rfl fun k _ => by rw [Nat.zero_add])

/-- ONE STEP: to a running sum that covers the channels below `b` at `(r, j)`, the kernel adds the product of the next
    `n` channels; the sum then covers the channels below `c = b + n`. -/
theorem step {n : ℕ} (x : Vec Ideal (Mat 512 6528) .bf16) (w : Vec Ideal (Mat 3264 256) .i8)
    (s : Vec Ideal (Mat 51 256) .bf16) (r : Fin 512) (j : Fin 256) (b c : ℕ) (hbc : b + n = c)
    (d : DotDims (Mat 512 n) (Mat n 256) (Mat 512 256)) (hd : d = DotDims.plain 512 n 256)
    (acc : FVec Ideal (Mat 512 256) .f32)
    (inb : ∀ d, (![0, b] : Fin 2 → ℕ) d + (Mat 512 n).size d ≤ (Mat 512 6528).size d)
    (hx : (Mat 512 n).ShapeCasts (Mat 512 n)) (p : FVec Ideal (Mat n 256) .bf16)
    (hacc : acc (ix2 r j) = ∑ k ∈ Finset.range b, term x w s r j k) (hp : Holds w s b p) :
    addf acc (matmul (φ₁ := .bf16) d none
        (shapeCast (Mat 512 n) (View.ld x (Rect.unit (s := Mat 512 6528) ![0, b] (Mat 512 n).size inb) : FVec Ideal (Mat 512 n) .bf16) hx) p
        (constant (F := Ideal) (Mat 512 256) .f32 0x00000000#32)) (ix2 r j)
      = ∑ k ∈ Finset.range c, term x w s r j k := by
  subst hd hbc
  rw [Finset.sum_range_add, ← hacc, ← product_at x w s b inb hx p hp r j]
  rfl

end Cert.Piece

end
-- ==== Proof.Block.lean ====
/- What one block of the kernel computes: all 6528 channels' contributions, summed. -/
module

public import proofs.«01_k».proof.Proof.Piece
public import proofs.«01_k».proof.Proof.Gen.KernelIdeal.Frame

@[expose] public section

set_option maxRecDepth 16384

noncomputable section

namespace Cert.Block

open Idealize.ShloMosaic Idealize.ShloMosaic.ValueIdx Cert.Weight Cert.Piece Cert.KernelIdeal Cert.KernelIdeal.Gen
open scoped BigOperators

/-- The block that the kernel stores: at row `r` and column `j`, the sum over all channels of input times weight, for the
    block's own columns of bytes and scales. The 26 tiles of the body are 26 steps of one running sum: twelve of low halves,
    one where the packed rows end and the high halves begin, twelve of high halves, and the last one of 128 channels. -/
theorem out_eq (x0 : Vec Ideal S512x6528 .bf16) (x1 : Vec Ideal S3264x256 .i8) (x2 : Vec Ideal S51x256 .bf16)
    (r : Fin 512) (j : Fin 256) : out0_3 x0 x1 x2 (ix2 r j) = total x0 x1 x2 r j := by
  unfold out0_3
  rw [View.canon_unit_zero (by funext a; match a with | ⟨0, _⟩ => rfl | ⟨1, _⟩ => rfl)]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42]
  show addf (F := Ideal) _ _ (ix2 r j) = _
  unfold total
  refine step x0 x1 x2 r j _ _ (by rfl) _ rfl _ _ _ _ ?_ (high_slab x1 x2 _ _ _ _ _ _ _ _ (by rfl) (by decide))
  iterate 12
    refine step x0 x1 x2 r j _ _ (by rfl) _ rfl _ _ _ _ ?_
      (pair_holds x1 x2 _ _ _ _ (high_slab x1 x2 _ _ _ _ _ _ _ _ (by rfl) (by decide))
        (high_slab x1 x2 _ _ _ _ _ _ _ _ (by rfl) (by decide)))
  refine step x0 x1 x2 r j _ _ (by rfl) _ rfl _ _ _ _ ?_
    (triple_holds x1 x2 _ _ _ _ _ (low_slab x1 x2 _ _ _ _ _ _ (by rfl) (by decide))
      (low_slab x1 x2 _ _ _ _ _ _ (by rfl) (by decide)) (high_slab x1 x2 _ _ _ _ _ _ _ _ (by rfl) (by decide)))
  iterate 11
    refine step x0 x1 x2 r j _ _ (by rfl) _ rfl _ _ _ _ ?_
      (pair_holds x1 x2 _ _ _ _ (low_slab x1 x2 _ _ _ _ _ _ (by rfl) (by decide))
        (low_slab x1 x2 _ _ _ _ _ _ (by rfl) (by decide)))
  exact first x0 x1 x2 r j _ rfl _ _ _
    (pair_holds x1 x2 _ _ _ _ (low_slab x1 x2 _ _ _ _ _ _ (by rfl) (by decide))
      (low_slab x1 x2 _ _ _ _ _ _ (by rfl) (by decide)))

end Cert.Block

end
-- ==== Proof.Array.lean ====
/- What the kernel's result array holds when the grid is done: at every row and column, the sum over all channels. -/
module

public import proofs.«01_k».proof.Proof.Block
public import Idealize.ShloMosaic.Lib.Pipeline.ValueKit

@[expose] public section

set_option maxRecDepth 16384

noncomputable section

namespace Cert.Array

open Idealize.ShloMosaic hiding ix2 eq_ix2
open Idealize.ShloMosaic.TcCoe Idealize.ShloMosaic.ValueIdx Idealize.SL.Sem
open Cert.Weight Cert.KernelIdeal Cert.KernelIdeal.Gen
open Idealize.ShloMosaic.Pipeline (Dat)

variable (m : (ℓ : Loc nD τ sig) → Buf (Elt Ideal) ℓ)

/-- The input as the grid finds it: its two leading axes laid out as 512 rows. -/
abbrev rows (c : Dev nD) : Vec Ideal S512x6528 .bf16 :=
  shapeCast S512x6528 (m ((c : Thread nD τ).loc main_arg0) : Vec Ideal S2x256x6528 .bf16) shapeCasts_S2x256x6528_S512x6528

/-- The buffer that the kernel's first window reads holds the input's rows. -/
theorem V_rows (c : Dev nD) : V m c main_v0 = rows m c := by
  show StableHlo.after (List.flatten [hostOps0]) (fun b => m (c, b)) (Proc.devRef .tc main_v0) = _
  simp only [List.flatten_cons, List.flatten_nil, List.append_nil, hostOps0]
  after_results
  rfl

/-- What the result array is shown to hold: at row `r` and column `n`, the sum over all channels. -/
def result (c : Dev nD) : Vec Ideal S512x3328 .bf16 := fun i =>
  total (rows m c) (m ((c : Thread nD τ).loc main_arg1)) (m ((c : Thread nD τ).loc main_arg2)) (i 0) (i 1)

/-- The block indices at grid point `t`: the input is one block; bytes, scales and result are cut into column blocks, of
    which the point takes block `t`. -/
theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)

/-- There are 13 column blocks. -/
theorem N_eq : cfg0.N = 13 := by decide +kernel

/-- Column `j` of block `t`, as a column of the whole arrays. -/
def col (t : Fin cfg0.N) (j : Fin 256) : Fin 3328 :=
  ⟨t.val * 256 + j.val, by have := t.isLt; have := N_eq; have := j.isLt; omega⟩

/-- The input block is the whole input. -/
theorem iblk0 (c : Dev nD) (t : Fin cfg0.N) : (iblk m c 0 t : Vec Ideal S512x6528 .bf16) = rows m c := by
  rw [← V_rows]
  funext y
  blk_simp [iblk]
  refine congrArg _ (funext fun a => Fin.ext ?_)
  match a with
  | ⟨0, _⟩ => blk_simp [index0]
  | ⟨1, _⟩ => blk_simp [index0]

/-- The bytes' block at point `t` holds the columns from `256 t`. -/
theorem iblk1 (c : Dev nD) (t : Fin cfg0.N) (p : Fin 3264) (j : Fin 256) :
    (iblk m c 1 t : Vec Ideal S3264x256 .i8) (ix2 p j) = m ((c : Thread nD τ).loc main_arg1) (ix2 p (col t j)) := by
  rw [← V_main_arg1 m c]
  blk_simp [iblk]
  refine congrArg _ (funext fun a => Fin.ext ?_)
  match a with
  | ⟨0, _⟩ => blk_simp [index1]
  | ⟨1, _⟩ => blk_simp [index1]; rfl

/-- The scales' block at point `t` holds the columns from `256 t`. -/
theorem iblk2 (c : Dev nD) (t : Fin cfg0.N) (g : Fin 51) (j : Fin 256) :
    (iblk m c 2 t : Vec Ideal S51x256 .bf16) (ix2 g j) = m ((c : Thread nD τ).loc main_arg2) (ix2 g (col t j)) := by
  rw [← V_main_arg2 m c]
  blk_simp [iblk]
  refine congrArg _ (funext fun a => Fin.ext ?_)
  match a with
  | ⟨0, _⟩ => blk_simp [index2]
  | ⟨1, _⟩ => blk_simp [index2]; rfl

/-- The block that the kernel stores at point `t` holds the sums of its columns. -/
theorem block_eq (c : Dev nD) (t : Fin cfg0.N) (r : Fin 512) (j : Fin 256) :
    out0_3 (iblk m c 0 t) (iblk m c 1 t) (iblk m c 2 t) (ix2 r j) = result m c (ix2 r (col t j)) := by
  rw [Block.out_eq, iblk0]
  exact total_congr _ _ _ _ _ _ _ _ (fun p => iblk1 m c t p j) fun g => iblk2 m c t g j

/-- When the grid is done, the result array holds the sums: each point's block is its columns of them, and the blocks
    cover the array. -/
theorem final (c : Dev nD) : (dats m 0 c).arrAt 3 cfg0.N = result m c := by
  refine (dats m 0 c).arrAt_eq_of_covers 3 _ (by decide +kernel) fun t hf y => ?_
  obtain ⟨r, j, rfl⟩ : ∃ (r : Fin 512) (j : Fin 256), y = ix2 r j := ⟨y 0, y 1, eq_ix2 y⟩
  blk_simp
  rw [after0_3]
  refine (block_eq m c t r j).trans (congrArg (result m c) (funext fun a => Fin.ext ?_))
  match a with
  | ⟨0, _⟩ => blk_simp [index3]
  | ⟨1, _⟩ => blk_simp [index3]; rfl

/-- The kernel's result: the sums, with the 512 rows split again into the input's two leading axes. -/
def out (c : Dev nD) : Vec Ideal S2x256x3328 .bf16 := shapeCast S2x256x3328 (result m c) shapeCasts_S512x3328_S2x256x3328

/-- After the grid, the last line of the program splits the rows of the result array. -/
theorem tail (c : Dev nD) : Pipeline.afterTail₀ cfgs (dats m) 0 (V0 m) [hostOps1] c main_v2 = out m c := by
  unfold Pipeline.afterTail₀
  simp only [List.flatten_cons, List.flatten_nil, List.append_nil, hostOps1]
  after_results
  rw [Pipeline.withArrays_arr (cfgs 0).spec launch0.win.arr_inj c (V0 m c) (fun w => (dats m 0 c).arrAt w (cfgs 0).N) 3]
  exact congrArg (fun x : Vec Ideal S512x3328 .bf16 => shapeCast S2x256x3328 x shapeCasts_S512x3328_S2x256x3328) (final m c)

/-- The run of the kernel at exact arithmetic: its result is `out`, and the arguments end unchanged. -/
theorem run (ρ : Dev nD → PrngReg) : θ_run defs (onTc (τ := τ) (main (F := Ideal))) ⟨m, fun _ => 0, ρ⟩ fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).2 main_v2 (Pipeline.mem_restRefs_of main_v2 (by decide) (by decide)) |>.trans (tail m c), h.2 c⟩)
    (θ_run_and (run_main m ρ) (unchanged m ρ))

end Cert.Array

end
-- ==== Proof.RefValue.lean ====
/- What the reference computes: at every batch, position and column, the sum over all channels of input times weight. -/
module

public import proofs.«01_k».proof.Proof.Weight
public import proofs.«01_k».proof.Proof.Gen.ReferenceIdeal.Run
public import proofs.«01_k».proof.Proof.Gen.ReferenceIdeal.Read
public import Idealize.ShloMosaic.Lib.Pipeline.Value

@[expose] public section

noncomputable section

namespace Cert.RefValue

open Idealize.ShloMosaic
open Idealize.ShloMosaic.ValueIdx Cert.Weight Cert.ReferenceIdeal Cert.ReferenceIdeal.Gen Cert.ReferenceIdeal.Read
open scoped BigOperators

variable (x0 : Vec Ideal S2x256x6528 .bf16) (x1 : Vec Ideal S3264x3328 .i8) (x2 : Vec Ideal S51x3328 .bf16)

/-- The low codes, widened and masked, at one packed row and column. -/
theorem low_at (p : Fin 3264) (n : Fin 3328) :
    BitVec.toInt (val_main_v2 (F := Ideal) x1 (ix2 p n)) = (((x1 (ix2 p n)).toNat % 16 : ℕ) : ℤ) := by
  rw [val_main_v2_apply, val_main_v0_apply, val_main_v1_apply, val_main_c_apply]
  exact low32 _

/-- The high codes, widened and shifted down, at one packed row and column. -/
theorem high_at (p : Fin 3264) (n : Fin 3328) :
    BitVec.toInt (val_main_v4 (F := Ideal) x1 (ix2 p n)) = (((x1 (ix2 p n)).toNat / 16 : ℕ) : ℤ) := by
  rw [val_main_v4_apply, val_main_v0_apply, val_main_v3_apply, val_main_c_0_apply]
  exact high32 _

/-- The low codes with the high codes laid under them: the code of every channel. -/
theorem code_at (k : Fin 6528) (n : Fin 3328) :
    BitVec.toInt (val_main_v5 (F := Ideal) x1 (ix2 k n)) = ((code (N := 3328) x1 k n : ℕ) : ℤ) := by
  have hk := k.isLt
  unfold val_main_v5
  by_cases h : k.val < 3264
  · rw [concatenate_pair_apply_left 0 (val_main_v2 (F := Ideal) x1) (val_main_v4 (F := Ideal) x1)
        concatenates_S3264x3328_S3264x3328_S6528x3328_d0 (ix2 k n) rfl (ix2 ⟨k.val, h⟩ n)
        (fun b => by match b with | ⟨0, _⟩ => rfl | ⟨1, _⟩ => rfl),
      low_at, code_low x1 k n ⟨k.val, h⟩ rfl]
  · rw [concatenate_pair_apply_right 0 (val_main_v2 (F := Ideal) x1) (val_main_v4 (F := Ideal) x1)
        concatenates_S3264x3328_S3264x3328_S6528x3328_d0 (ix2 k n) rfl rfl (ix2 ⟨k.val - 3264, by omega⟩ n)
        (fun b hb => by match b with | ⟨0, _⟩ => exact absurd rfl hb | ⟨1, _⟩ => rfl)
        (by show (k.val - 3264) + 3264 = k.val; omega),
      high_at, code_high x1 k n ⟨k.val - 3264, by omega⟩ (by show k.val = 3264 + (k.val - 3264); omega)]

/-- The scales repeated along each group: the scale of every channel's group. -/
theorem scale_at (k : Fin 6528) (n : Fin 3328) : val_main_v8 (F := Ideal) x2 (ix2 k n) = x2 (ix2 (group k) n) := by
  rw [val_main_v8_apply, val_main_v7_apply, val_main_v6_apply]
  have hk := k.isLt
  have hn := n.isLt
  refine congrArg x2 (funext fun a => Fin.ext ?_)
  match a with
  | ⟨0, _⟩ => show (k.val * 3328 + n.val) / 425984 = k.val / 128; omega
  | ⟨1, _⟩ => show (k.val * 3328 + n.val) % 3328 = n.val; omega

/-- The reference's weights. -/
theorem weight_at (k : Fin 6528) (n : Fin 3328) :
    val_main_v12 (F := Ideal) x1 x2 (ix2 k n) = wgt (N := 3328) x1 x2 k n := by
  rw [val_main_v12_apply, val_main_v11_apply, val_main_v9_apply, val_main_v10_apply, val_main_cst_apply, scale_at]
  show (((BitVec.toInt (val_main_v5 (F := Ideal) x1 (ix2 k n)) : ℝ) : EReal) - Ideal.ofBits .bf16 0x4100#16) * _ = _
  rw [code_at, Int.cast_natCast]
  rfl

/-- The reference's result at batch `b`, position `q` and column `n`. -/
theorem result_at (b : Fin 2) (q : Fin 256) (n : Fin 3328) :
    val_main_v14 (F := Ideal) x0 x1 x2 (ix3 b q n) = linear x0 x1 x2 b q n := by
  rw [val_main_v14_apply]
  show val_main_v13 (F := Ideal) x0 x1 x2 (ix3 b q n) = _
  rw [val_main_v13_apply]
  unfold linear
  refine Finset.sum_congr rfl fun k _ => ?_
  rw [← weight_at]
  refine congrArg₂ (fun u v : EReal => u * v) (congrArg x0 (funext fun a => ?_)) (congrArg _ (funext fun a => ?_))
  · match a with
    | ⟨0, _⟩ => rfl
    | ⟨1, _⟩ => rfl
    | ⟨2, _⟩ => rfl
  · match a with
    | ⟨0, _⟩ => rfl
    | ⟨1, _⟩ => rfl

end Cert.RefValue

end
-- ==== Proof.Equal.lean ====
/- The equation between the two programs' results: the kernel's sums, with the rows split into batch and position, are the
   reference's. -/
module

public import proofs.«01_k».proof.Proof.Array
public import proofs.«01_k».proof.Proof.RefValue

@[expose] public section

set_option maxRecDepth 16384

noncomputable section

namespace Cert.Equal

open Idealize.ShloMosaic hiding ix2 eq_ix2 ix3 eq_ix3
open Idealize.ShloMosaic.TcCoe Idealize.ShloMosaic.ValueIdx
open Cert.Weight Cert.Array Cert.KernelIdeal Cert.KernelIdeal.Gen
open scoped BigOperators

variable (m : (ℓ : Loc nD τ sig) → Buf (Elt Ideal) ℓ)

/-- Batch `b` and position `q`, as one of the 512 rows. -/
def row (b : Fin 2) (q : Fin 256) : Fin 512 := ⟨b.val * 256 + q.val, by have := b.isLt; have := q.isLt; omega⟩

/-- The input's row `256 b + q` is its batch `b` at position `q`. -/
theorem rows_at (c : Dev nD) (b : Fin 2) (q : Fin 256) (k : Fin 6528) :
    rows m c (ix2 (row b q) k) = m ((c : Thread nD τ).loc main_arg0) (ix3 b q k) :=
  shapeCast_apply (s := S2x256x6528) (t := S512x6528) _ shapeCasts_S2x256x6528_S512x6528 (ix2 (row b q) k) (ix3 b q k) (by
    rewrite [Shape.rowMajor_val_three, Shape.rowMajor_val_two]
    rfl)

/-- The kernel's result at batch `b`, position `q` and column `n`: the sum over all channels of input times weight. -/
theorem out_at (c : Dev nD) (b : Fin 2) (q : Fin 256) (n : Fin 3328) :
    out m c (ix3 b q n) = linear (m ((c : Thread nD τ).loc main_arg0)) (m ((c : Thread nD τ).loc main_arg1))
      (m ((c : Thread nD τ).loc main_arg2)) b q n := by
  refine (shapeCast_apply (s := S512x3328) (t := S2x256x3328) (result m c) shapeCasts_S512x3328_S2x256x3328 (ix3 b q n)
    (ix2 (row b q) n) (by rewrite [Shape.rowMajor_val_three, Shape.rowMajor_val_two]; rfl)).trans ?_
  refine (total_eq _ _ _ _ _).trans (Finset.sum_congr rfl fun k _ => ?_)
  exact congrArg (fun u : EReal => u * _) (rows_at m c b q k)

/-- The two programs' results are equal on equal arguments. -/
theorem out_eq (c : Dev nD) :
    Cert.ReferenceIdeal.Read.val_main_v14 (F := Ideal) (m ((c : Thread nD τ).loc main_arg0))
      (m ((c : Thread nD τ).loc main_arg1)) (m ((c : Thread nD τ).loc main_arg2)) = out m c := by
  funext i
  obtain ⟨b, q, n, rfl⟩ : ∃ (b : Fin 2) (q : Fin 256) (n : Fin 3328), i = ix3 b q n := ⟨i 0, i 1, i 2, eq_ix3 i⟩
  exact (RefValue.result_at _ _ _ b q n).trans (out_at m c b q n).symm

end Cert.Equal

end
-- ==== Proof.lean ====
/- The proof of the five claims of Defs.lean: the kernel, its reading at exact arithmetic and the reference each run and leave
   their arguments as they were; the reading at exact arithmetic is the kernel's own text; and at exact arithmetic the kernel
   and the reference end with equal results.

     Weight.lean    the weight of a channel and column; the sum that both programs compute
     Piece.lean     one step of the kernel's running sum
     Block.lean     what one block of the kernel holds
     Array.lean     what the whole result holds, and the kernel's run
     RefValue.lean  what the reference computes
     Equal.lean     the two are equal -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged, and every counter ends at zero. -/
theorem reference_frame : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At exact arithmetic the kernel and the reference, from equal arguments, end with equal results: the kernel's run leaves
    the sums over all channels, the reference's run leaves its own term, and the two are one function of the arguments. -/
theorem algebraic : @Cert.algebraic_KernelIdeal_ReferenceIdeal Cert.KernelIdeal.Gen.facts Cert.ReferenceIdeal.Gen.facts := by
  intro m g m' g' _ hagree
  refine ⟨fun c => Cert.Array.out m c, Cert.Array.run m g, ?_⟩
  refine (θ_run Cert.ReferenceIdeal.defs _ _).mono (fun r h c => ⟨(h c).1.trans ?_, (h c).2⟩) (Cert.ReferenceIdeal.Value.run m' g')
  rw [(hagree c).1, (hagree c).2.1, (hagree c).2.2]
  exact (Cert.ReferenceIdeal.Read.val_main_v14_eq _ _ _).trans (Cert.Equal.out_eq m c)

/-- All five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, algebraic⟩

end Cert.Proof

end
